-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x128 : Shape := ⟨2, ![1024, 128]⟩
abbrev S256x256 : Shape := ⟨2, ![256, 256]⟩
abbrev S256 : Shape := ⟨1, ![256]⟩
abbrev S1x256 : Shape := ⟨2, ![1, 256]⟩
abbrev S1 : Shape := ⟨1, ![1]⟩
abbrev S1024x1024 : Shape := ⟨2, ![1024, 1024]⟩
abbrev S256x128 : Shape := ⟨2, ![256, 128]⟩
abbrev S1024x256 : Shape := ⟨2, ![1024, 256]⟩
abbrev S256x1024 : Shape := ⟨2, ![256, 1024]⟩
abbrev S8x256 : Shape := ⟨2, ![8, 256]⟩
abbrev S8x1x256 : Shape := ⟨3, ![8, 1, 256]⟩
abbrev S1x256x256 : Shape := ⟨3, ![1, 256, 256]⟩
abbrev S8x256x256 : Shape := ⟨3, ![8, 256, 256]⟩
abbrev S1x1x256 : Shape := ⟨3, ![1, 1, 256]⟩
abbrev S8x256x1 : Shape := ⟨3, ![8, 256, 1]⟩
abbrev S1x256x1 : Shape := ⟨3, ![1, 256, 1]⟩
abbrev S256x1 : Shape := ⟨2, ![256, 1]⟩

abbrev nBuf : Space → Nat
  | .hbm => 8
  | .vmem => 9
  | .smem => 1
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S256x256, .f32⟩
  | .hbm, ⟨3, _⟩ => ⟨S256, .f32⟩
  | .hbm, ⟨4, _⟩ => ⟨S1x256, .f32⟩
  | .hbm, ⟨5, _⟩ => ⟨S1, .f32⟩
  | .hbm, ⟨6, _⟩ => ⟨S1x256, .f32⟩
  | .hbm, ⟨7, _⟩ => ⟨S1024x1024, .f32⟩
  | .local _ .vmem, ⟨0, _⟩ => ⟨S1024x128, .f32⟩
  | .local _ .vmem, ⟨1, _⟩ => ⟨S256x128, .f32⟩
  | .local _ .vmem, ⟨2, _⟩ => ⟨S256x128, .f32⟩
  | .local _ .vmem, ⟨3, _⟩ => ⟨S256x256, .f32⟩
  | .local _ .vmem, ⟨4, _⟩ => ⟨S1x256, .f32⟩
  | .local _ .vmem, ⟨5, _⟩ => ⟨S1x256, .f32⟩
  | .local _ .vmem, ⟨6, _⟩ => ⟨S1024x256, .f32⟩
  | .local _ .vmem, ⟨7, _⟩ => ⟨S1024x256, .f32⟩
  | .local _ .vmem, ⟨8, _⟩ => ⟨S256x1024, .bf16⟩
  | .local _ .smem, ⟨0, _⟩ => ⟨S1, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_stg5_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S1024x128 : Shape := ⟨2, ![1024, 128]⟩
abbrev S256x256 : Shape := ⟨2, ![256, 256]⟩
abbrev S256 : Shape := ⟨1, ![256]⟩
abbrev S1x256 : Shape := ⟨2, ![1, 256]⟩
abbrev S1 : Shape := ⟨1, ![1]⟩
abbrev S256x128 : Shape := ⟨2, ![256, 128]⟩
abbrev S128x256 : Shape := ⟨2, ![128, 256]⟩
abbrev S1024x256 : Shape := ⟨2, ![1024, 256]⟩
abbrev S1024x1x256 : Shape := ⟨3, ![1024, 1, 256]⟩
abbrev S1x1024x256 : Shape := ⟨3, ![1, 1024, 256]⟩
abbrev S1024x1024x256 : Shape := ⟨3, ![1024, 1024, 256]⟩
abbrev S1x1x256 : Shape := ⟨3, ![1, 1, 256]⟩
abbrev S_ : Shape := ⟨0, ![]⟩
abbrev S1024x1024 : Shape := ⟨2, ![1024, 1024]⟩

abbrev nBuf : Space → Nat
  | .hbm => 28
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S256x256, .f32⟩
  | .hbm, ⟨3, _⟩ => ⟨S256, .f32⟩
  | .hbm, ⟨4, _⟩ => ⟨S1x256, .f32⟩
  | .hbm, ⟨5, _⟩ => ⟨S1, .f32⟩
  | .hbm, ⟨6, _⟩ => ⟨S256x128, .f32⟩
  | .hbm, ⟨7, _⟩ => ⟨S128x256, .f32⟩
  | .hbm, ⟨8, _⟩ => ⟨S1024x256, .f32⟩
  | .hbm, ⟨9, _⟩ => ⟨S256x128, .f32⟩
  | .hbm, ⟨10, _⟩ => ⟨S128x256, .f32⟩
  | .hbm, ⟨11, _⟩ => ⟨S1024x256, .f32⟩
  | .hbm, ⟨12, _⟩ => ⟨S1024x1x256, .f32⟩
  | .hbm, ⟨13, _⟩ => ⟨S1x1024x256, .f32⟩
  | .hbm, ⟨14, _⟩ => ⟨S1024x1024x256, .f32⟩
  | .hbm, ⟨15, _⟩ => ⟨S1024x1024x256, .f32⟩
  | .hbm, ⟨16, _⟩ => ⟨S1024x1024x256, .f32⟩
  | .hbm, ⟨17, _⟩ => ⟨S1x1x256, .f32⟩
  | .hbm, ⟨18, _⟩ => ⟨S1024x1024x256, .f32⟩
  | .hbm, ⟨19, _⟩ => ⟨S1024x1024x256, .f32⟩
  | .hbm, ⟨20, _⟩ => ⟨S_, .f32⟩
  | .hbm, ⟨21, _⟩ => ⟨S1024x1024x256, .f32⟩
  | .hbm, ⟨22, _⟩ => ⟨S1024x1024x256, .f32⟩
  | .hbm, ⟨23, _⟩ => ⟨S256, .f32⟩
  | .hbm, ⟨24, _⟩ => ⟨S1024x1024, .f32⟩
  | .hbm, ⟨25, _⟩ => ⟨S_, .f32⟩
  | .hbm, ⟨26, _⟩ => ⟨S1024x1024, .f32⟩
  | .hbm, ⟨27, _⟩ => ⟨S1024x1024, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_cst : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Proof.Pair.Columns.lean ====
/-
  The columns the kernel writes, apart from any program: for one row `m` of the first operand, the 256 logits of that row
  against a block of 256 rows of the second, as a column; and the writes of columns `0 … n-1` into a 256-by-1024 buffer,
  which leave column `m` of the buffer holding the logits of row `m`.
-/
module

public import Idealize.ShloMosaic.Lib.Pointwise
public import Idealize.ShloMosaic.Lib.Pipeline.FrameBody

@[expose] public section

set_option maxRecDepth 16384

noncomputable section

namespace Cert.Pair

open Idealize.ShloMosaic

variable {F : FTy → Type} [FloatOps F]

/-- Eight rows of the first hidden array, from row `o` on, against the block of the second: for each of the eight rows and
    each of the 256 rows of the block, the sum over the 256 hidden units of `max (a + b) 0 * w`. -/
def eight (a : FVec F ⟨2, ![1024, 256]⟩ .bf16) (b : FVec F ⟨2, ![256, 256]⟩ .bf16) (w : FVec F ⟨2, ![1, 256]⟩ .bf16)
    (o : ℕ) (ho : (⟨2, ![1024, 256]⟩ : Shape).Slices ![o, 0] ⟨2, ![8, 256]⟩) : FVec F ⟨3, ![8, 256, 1]⟩ .bf16 :=
  shapeCast ⟨3, ![8, 256, 1]⟩
    (multiReduction .add [2] ⟨2, ![8, 256]⟩
      (mulf
        (maximumf
          (addf
            (broadcastTo ⟨3, ![8, 256, 256]⟩
              (shapeCast ⟨3, ![8, 1, 256]⟩ (extractStridedSlice ⟨2, ![8, 256]⟩ ![o, 0] a ho) (by decide)) (by decide))
            (broadcastTo ⟨3, ![8, 256, 256]⟩ (shapeCast ⟨3, ![1, 256, 256]⟩ b (by decide)) (by decide)))
          (broadcast ⟨3, ![8, 256, 256]⟩ (Scalar.ofBits .bf16 0x0000#16)))
        (broadcastTo ⟨3, ![8, 256, 256]⟩ (shapeCast ⟨3, ![1, 1, 256]⟩ w (by decide)) (by decide)))
      0x0000#16 (by decide) (.inr rfl) rfl)
    (by decide)

/-- Row `r` of the eight, as a column of 256. -/
def pick (g : FVec F ⟨3, ![8, 256, 1]⟩ .bf16) (r : ℕ)
    (hr : (⟨3, ![8, 256, 1]⟩ : Shape).Slices ![r, 0, 0] ⟨3, ![1, 256, 1]⟩) : FVec F ⟨2, ![256, 1]⟩ .bf16 :=
  shapeCast ⟨2, ![256, 1]⟩
    (shapeCast ⟨2, ![256, 1]⟩ (extractStridedSlice ⟨3, ![1, 256, 1]⟩ ![r, 0, 0] g hr) (by decide)) (by decide)

/-- The eight rows that contain row `m` lie within the 1024. -/
theorem slices_eight (m : ℕ) (hm : m < 1024) :
    (⟨2, ![1024, 256]⟩ : Shape).Slices ![8 * (m / 8), 0] ⟨2, ![8, 256]⟩ :=
  ⟨rfl, Fin.forall_fin_two.mpr ⟨show 8 * (m / 8) + 8 ≤ 1024 by omega, show 0 + 256 ≤ 256 by omega⟩⟩

/-- Row `m` modulo eight lies within the eight. -/
theorem slices_pick (m : ℕ) : (⟨3, ![8, 256, 1]⟩ : Shape).Slices ![m % 8, 0, 0] ⟨3, ![1, 256, 1]⟩ :=
  ⟨rfl, fun i => by
    fin_cases i
    · exact show m % 8 + 1 ≤ 8 by omega
    · exact show 0 + 256 ≤ 256 by omega
    · exact show 0 + 1 ≤ 1 by omega⟩

/-- The column of row `m`. -/
def column (a : FVec F ⟨2, ![1024, 256]⟩ .bf16) (b : FVec F ⟨2, ![256, 256]⟩ .bf16) (w : FVec F ⟨2, ![1, 256]⟩ .bf16)
    (m : ℕ) (hm : m < 1024) : FVec F ⟨2, ![256, 1]⟩ .bf16 :=
  pick (eight a b w (8 * (m / 8)) (slices_eight m hm)) (m % 8) (slices_pick m)

/-- Column `m` lies within the buffer. -/
theorem inb_column (m : ℕ) (hm : m < 1024) :
    ∀ i, (![0, m] : Fin 2 → ℕ) i + (![256, 1] : Fin 2 → ℕ) i ≤ (⟨2, ![256, 1024]⟩ : Shape).size i :=
  Fin.forall_fin_two.mpr ⟨show 0 + 256 ≤ 256 by omega, show m + 1 ≤ 1024 by omega⟩

/-- The write of column `m`. -/
def write (a : FVec F ⟨2, ![1024, 256]⟩ .bf16) (b : FVec F ⟨2, ![256, 256]⟩ .bf16) (w : FVec F ⟨2, ![1, 256]⟩ .bf16)
    (m : ℕ) (hm : m < 1024) : View.Piece (Elt F) ⟨2, ![256, 1024]⟩ .bf16 :=
  ⟨Rect.unit (s := ⟨2, ![256, 1024]⟩) ![0, m] ![256, 1] (inb_column m hm), column a b w m hm⟩

/-- The writes of columns `0 … n-1`, the last first. -/
def writes (a : FVec F ⟨2, ![1024, 256]⟩ .bf16) (b : FVec F ⟨2, ![256, 256]⟩ .bf16) (w : FVec F ⟨2, ![1, 256]⟩ .bf16) :
    (n : ℕ) → n ≤ 1024 → List (View.Piece (Elt F) ⟨2, ![256, 1024]⟩ .bf16)
  | 0, _ => []
  | n + 1, h => write a b w n h :: writes a b w n (Nat.le_of_succ_le h)

/-- After the writes of columns `0 … n-1`, column `m < n` of the buffer holds the column of row `m`. -/
theorem canon_writes (a : FVec F ⟨2, ![1024, 256]⟩ .bf16) (b : FVec F ⟨2, ![256, 256]⟩ .bf16)
    (w : FVec F ⟨2, ![1, 256]⟩ .bf16) (j : Fin 256) (m : Fin 1024) (n : ℕ) (hn : n ≤ 1024) (h : m.val < n) :
    View.canon (writes a b w n hn) (ix2 j m) = column a b w m.val m.isLt (ix2 j 0) := by
  induction n with
  | zero => exact absurd h (Nat.not_lt_zero _)
  | succ n ih =>
    rcases Nat.lt_succ_iff_lt_or_eq.mp h with h' | h'
    · refine (View.canon_cons_of_not_mem _ _ ?_).trans (ih (Nat.le_of_succ_le hn) h')
      intro hmem
      have := ((Rect.mem_set_unit (inb := inb_column n hn)).mp hmem 1).1
      exact absurd (show n ≤ m.val from this) (by omega)
    · subst h'
      have he : (ix2 j m : (⟨2, ![256, 1024]⟩ : Shape).Idx)
          = (Rect.unit (s := ⟨2, ![256, 1024]⟩) ![0, m.val] ![256, 1] (inb_column m.val m.isLt)).emb (ix2 j 0) := by
        funext i
        apply Fin.ext
        fin_cases i
        · show j.val = 0 + 1 * j.val
          omega
        · show m.val = m.val + 1 * 0
          omega
      rw [he]
      exact View.canon_cons_emb _ _ _ _

/-- A column at the ideal values: the logits of row `m` before the last bias, as sums over the hidden units. -/
theorem column_apply (a : FVec Ideal ⟨2, ![1024, 256]⟩ .bf16) (b : FVec Ideal ⟨2, ![256, 256]⟩ .bf16)
    (w : FVec Ideal ⟨2, ![1, 256]⟩ .bf16) (m : Fin 1024) (j : Fin 256) :
    column a b w m.val m.isLt (ix2 j 0)
      = ∑ k : Fin 256, max (a (ix2 m k) + b (ix2 j k)) 0 * w (ix2 0 k) := by
  pointwise [column, pick, eight]
  have he : ∀ h : 8 * (m.val / 8) + m.val % 8 < 1024, (⟨8 * (m.val / 8) + m.val % 8, h⟩ : Fin 1024) = m := fun _ =>
    Fin.ext (Nat.div_add_mod m.val 8)
  simp only [he]

end Cert.Pair

end
-- ==== Proof.Pair.Program.lean ====
/-
  The kernel's step as a program written once for every column: six loads of the blocks, the 1024 columns one after the
  other, each loaded and then stored, and the block made from the buffer of columns stored at the end. The printed step is
  this program by computation.
-/
module

public import proofs.«01_k».proof.Proof.Gen.KernelIdeal.Skeleton
public import proofs.«01_k».proof.Proof.Pair.Columns
public import Idealize.ShloMosaic.Lib.Tactic

@[expose] public section

set_option maxRecDepth 16384

noncomputable section

namespace Cert.Pair

open Cert.KernelIdeal Cert.KernelIdeal.Gen Idealize.ShloMosaic Idealize.ShloMosaic.TcCoe Idealize.ShloMosaic.Tactic
open Idealize.SL Idealize.SL.Sem

variable {F : FTy → Type} [FloatOps F]

/-- A column's rows are whole words: it starts at row 0 and holds an even number of rows. -/
theorem packed_column (m : ℕ) (hm : m < 1024) :
    (Rect.unit (s := S256x1024) ![0, m] ![256, 1] (inb_column m hm)).PackedRows (EltTy.packing .bf16) :=
  .inr ⟨le_rfl, rfl, .inl ⟨Nat.dvd_zero _, show 2 ∣ 256 by decide⟩⟩

/-- The column `k + 1` from the last is one of the 1024. -/
theorem fromLast_lt (k : ℕ) : 1023 - k < 1024 := Nat.lt_succ_of_le (Nat.sub_le 1023 k)

/-- Column `m` of the buffer loaded, the value not used, and then stored. -/
def columnThen (a : FVec F S1024x256 .bf16) (b : FVec F S256x256 .bf16) (w : FVec F S1x256 .bf16)
    (arg9 : Memref sig .tc .vmem S256x1024 .bf16) (harg9 : arg9.IsWhole) (m : ℕ) (hm : m < 1024)
    (next : Prog (TpuEff nD τ sig (Elt F) Λ₀ .tc) PUnit) : Prog (TpuEff nD τ sig (Elt F) Λ₀ .tc) PUnit :=
  .op (.load arg9 (Rect.unit (s := S256x1024) ![0, m] ![256, 1] (inb_column m hm)).toLoadRect (View.loadsAt_vmem h_S256x1)) fun _ =>
    .op (.store arg9 (Rect.unit (s := S256x1024) ![0, m] ![256, 1] (inb_column m hm)) (column a b w m hm) Finset.univ
      (View.stores_vmem h_S256x1 (harg9.storeExact_slice rfl _ (packed_column m hm)) (fun _ => rfl)) (.inl rfl)) fun _ => next

/-- The last `k` columns, one after the other, and then `next`. -/
def lastColumns (a : FVec F S1024x256 .bf16) (b : FVec F S256x256 .bf16) (w : FVec F S1x256 .bf16)
    (arg9 : Memref sig .tc .vmem S256x1024 .bf16) (harg9 : arg9.IsWhole)
    (next : Prog (TpuEff nD τ sig (Elt F) Λ₀ .tc) PUnit) (k : ℕ) : Prog (TpuEff nD τ sig (Elt F) Λ₀ .tc) PUnit :=
  Nat.rec (motive := fun _ => Prog (TpuEff nD τ sig (Elt F) Λ₀ .tc) PUnit) next
    (fun k rest => columnThen a b w arg9 harg9 (1023 - k) (fromLast_lt k) rest) k

/-- The end of a step: the whole buffer of columns loaded, the output block loaded, the value not used, and stored. -/
def finish (arg8 : Memref sig .tc .vmem S1024x256 .f32) (arg9 : Memref sig .tc .vmem S256x1024 .bf16) (v12 : Elt F .f32) :
    Prog (TpuEff nD τ sig (Elt F) Λ₀ .tc) PUnit :=
  .op (.load arg9 (Rect.unit (s := S256x1024) ![0, 0] S256x1024.size inb_S256x1024_S256x1024_0_0).toLoadRect (View.loadsAt_vmem h_S256x1024)) fun v =>
    .op (.load arg8 (Rect.unit (s := S1024x256) ![0, 0] S1024x256.size inb_S1024x256_S1024x256_0_0).toLoadRect (View.loadsAt_vmem h_S1024x256)) fun _ =>
      .op (.store arg8 (Rect.unit (s := S1024x256) ![0, 0] S1024x256.size inb_S1024x256_S1024x256_0_0) (k0_pay1302 v12 v) Finset.univ
        (View.stores_vmem_bits_univ h_S1024x256 rfl) (.inl rfl)) fun _ => pure ⟨⟩

/-- A whole step. -/
def step (arg2 : Memref sig .tc .vmem S1024x128 .f32) (arg3 : Memref sig .tc .vmem S256x128 .f32)
    (arg4 : Memref sig .tc .vmem S256x256 .f32) (arg5 arg6 : Memref sig .tc .vmem S1x256 .f32)
    (arg7 : Memref sig .tc .smem S1 .f32) (arg8 : Memref sig .tc .vmem S1024x256 .f32)
    (arg9 : Memref sig .tc .vmem S256x1024 .bf16) (harg9 : arg9.IsWhole) :
    Prog (TpuEff nD τ sig (Elt F) Λ₀ .tc) PUnit :=
  .op (.load arg2 (Rect.unit (s := S1024x128) ![0, 0] S1024x128.size inb_S1024x128_S1024x128_0_0).toLoadRect (View.loadsAt_vmem h_S1024x128)) fun v0 =>
  .op (.load arg3 (Rect.unit (s := S256x128) ![0, 0] S256x128.size inb_S256x128_S256x128_0_0).toLoadRect (View.loadsAt_vmem h_S256x128)) fun v1 =>
  .op (.load arg4 (Rect.unit (s := S256x256) ![0, 0] S256x256.size inb_S256x256_S256x256_0_0).toLoadRect (View.loadsAt_vmem h_S256x256)) fun v2 =>
  .op (.load arg5 (Rect.unit (s := S1x256) ![0, 0] S1x256.size inb_S1x256_S1x256_0_0).toLoadRect (View.loadsAt_vmem h_S1x256)) fun v5 =>
  .op (.load arg6 (Rect.unit (s := S1x256) ![0, 0] S1x256.size inb_S1x256_S1x256_0_0).toLoadRect (View.loadsAt_vmem h_S1x256)) fun v11 =>
  .op (.load arg7 (Rect.unit (s := S1) ![0] S1.size inb_S1_S1_0).toLoadRect (View.loadsAt_rect (View.loads_smem_one rfl numel1_S1))) fun v =>
  lastColumns (k0_pay1 v0 v2 v5) (k0_pay2 v1 v2) (k0_pay3 v11) arg9 harg9
    (finish arg8 arg9 (v (Shape.Idx.first (numel1_S1.symm ▸ Nat.one_pos)))) 1024

/-- The printed step is `step`, by computation. -/
theorem printed_eq_step (i : grid0.Coords) (arg2 : Memref sig .tc .vmem S1024x128 .f32) (harg2 : arg2.IsWhole)
    (arg3 : Memref sig .tc .vmem S256x128 .f32) (harg3 : arg3.IsWhole) (arg4 : Memref sig .tc .vmem S256x256 .f32)
    (harg4 : arg4.IsWhole) (arg5 : Memref sig .tc .vmem S1x256 .f32) (harg5 : arg5.IsWhole)
    (arg6 : Memref sig .tc .vmem S1x256 .f32) (harg6 : arg6.IsWhole) (arg7 : Memref sig .tc .smem S1 .f32)
    (harg7 : arg7.IsWhole) (arg8 : Memref sig .tc .vmem S1024x256 .f32) (harg8 : arg8.IsWhole)
    (arg9 : Memref sig .tc .vmem S256x1024 .bf16) (harg9 : arg9.IsWhole) :
    cc0__pair_kernel (F := F) i arg2 harg2 arg3 harg3 arg4 harg4 arg5 harg5 arg6 harg6 arg7 harg7 arg8 harg8 arg9 harg9
      = step arg2 arg3 arg4 arg5 arg6 arg7 arg8 arg9 harg9 := by
  sl_kernel_rfl

end Cert.Pair

end
-- ==== Proof.Pair.Payloads.lean ====
/-
  The kernel's own terms at the ideal values, read at an index: the two hidden arrays, the second layer's weights, and the
  block a step stores out of the buffer of columns.
-/
module

public import proofs.«01_k».proof.Proof.Gen.KernelIdeal.Skeleton
public import proofs.«01_k».proof.Proof.Pair.Columns

@[expose] public section

set_option maxRecDepth 16384

noncomputable section

namespace Cert.Pair

open Cert.KernelIdeal Cert.KernelIdeal.Gen Idealize.ShloMosaic Idealize.ShloMosaic.TcCoe

/-- The first hidden array with the first layer's bias: row `m` of the first operand against the first 128 columns of row
    `k` of the first layer's weights, plus that unit's bias. -/
theorem hidden_left (x : Vec Ideal S1024x128 .f32) (w : Vec Ideal S256x256 .f32) (b : Vec Ideal S1x256 .f32)
    (m : Fin 1024) (k : Fin 256) :
    k0_pay1 x w b (ix2 m k)
      = (∑ l : Fin 128, x (ix2 m l) * w (ix2 k ⟨l.val, l.isLt.trans (by decide)⟩)) + b (ix2 0 k) := by
  pointwise [k0_pay1]

/-- The second hidden array: row `j` of the block of the second operand against the last 128 columns of row `k` of the
    first layer's weights. -/
theorem hidden_right (x : Vec Ideal S256x128 .f32) (w : Vec Ideal S256x256 .f32) (j k : Fin 256) :
    k0_pay2 x w (ix2 j k)
      = ∑ l : Fin 128, x (ix2 j l) * w (ix2 k ⟨128 + l.val, Nat.add_lt_add_left l.isLt 128⟩) := by
  pointwise [k0_pay2]

/-- The second layer's weights, unchanged by the change of format. -/
theorem weights (w : Vec Ideal S1x256 .f32) (k : Fin 256) : k0_pay3 w (ix2 0 k) = w (ix2 0 k) := by
  pointwise [k0_pay3]

/-- What a step stores: the buffer of columns transposed, plus the last bias. -/
theorem stored (b : Elt Ideal .f32) (x : Vec Ideal S256x1024 .bf16) (m : Fin 1024) (j : Fin 256) :
    k0_pay1302 b x (ix2 m j) = x (ix2 j m) + b := by
  pointwise [k0_pay1302]

end Cert.Pair

end
-- ==== Proof.Pair.Blocks.lean ====
/-
  What each step's input blocks hold, read at an index: the arguments, the second operand's block starting at row 256 times
  the step.
-/
module

public import proofs.«01_k».proof.Proof.Gen.KernelIdeal.Frame.Runs
public import Idealize.ShloMosaic.Lib.Pointwise
public import Idealize.ShloMosaic.Lib.Claim

@[expose] public section

set_option maxRecDepth 16384

noncomputable section

namespace Cert.Pair

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- A step is one of four. -/
theorem step_lt : t.val < 4 := lt_of_lt_of_eq t.isLt N_0

/-- Row `j` of the block of step `t`. -/
def rowOf (j : Fin 256) : Fin 1024 := ⟨256 * t.val + j.val, by have := step_lt t; have := j.isLt; omega⟩

/-- Where each window's block starts, in blocks: the second operand's and the result's move with the step, the others stay. -/
theorem starts : ∀ t : Fin grid0.N,
    (win0_0.index t 0 = 0 ∧ win0_0.index t 1 = 0) ∧ (win0_1.index t 0 = t.val ∧ win0_1.index t 1 = 0)
      ∧ (win0_2.index t 0 = 0 ∧ win0_2.index t 1 = 0) ∧ (win0_3.index t 0 = 0 ∧ win0_3.index t 1 = 0)
      ∧ (win0_4.index t 0 = 0 ∧ win0_4.index t 1 = 0) ∧ win0_5.index t 0 = 0
      ∧ (win0_6.index t 0 = 0 ∧ win0_6.index t 1 = t.val) := by
  decide +kernel

/-- The first operand's block is the whole of it. -/
theorem block_left (r : Fin 1024) (l : Fin 128) :
    iblk m c 0 t (ix2 r l) = m ((c : Thread nD τ).loc main_arg0) (ix2 r l) := by
  refine Eq.trans ?_ (congrFun (V_main_arg0 m c) _)
  refine congrArg (V m c main_arg0) (funext fun i => Fin.ext ?_)
  fin_cases i
  · show win0_0.index t 0 * 1024 + 1 * r.val = r.val
    rw [(starts t).1.1]; omega
  · show win0_0.index t 1 * 128 + 1 * l.val = l.val
    rw [(starts t).1.2]; omega

/-- The second operand's block at step `t` is its rows from `256 t` on. -/
theorem block_right (j : Fin 256) (l : Fin 128) :
    iblk m c 1 t (ix2 j l) = m ((c : Thread nD τ).loc main_arg1) (ix2 (rowOf t j) l) := by
  refine Eq.trans ?_ (congrFun (V_main_arg1 m c) _)
  refine congrArg (V m c main_arg1) (funext fun i => Fin.ext ?_)
  fin_cases i
  · show win0_1.index t 0 * 256 + 1 * j.val = 256 * t.val + j.val
    rw [(starts t).2.1.1]; omega
  · show win0_1.index t 1 * 128 + 1 * l.val = l.val
    rw [(starts t).2.1.2]; omega

/-- The first layer's weights are staged whole. -/
theorem block_weights (k l : Fin 256) :
    iblk m c 2 t (ix2 k l) = m ((c : Thread nD τ).loc main_arg2) (ix2 k l) := by
  refine Eq.trans ?_ (congrFun (V_main_arg2 m c) _)
  refine congrArg (V m c main_arg2) (funext fun i => Fin.ext ?_)
  fin_cases i
  · show win0_2.index t 0 * 256 + 1 * k.val = k.val
    rw [(starts t).2.2.1.1]; omega
  · show win0_2.index t 1 * 256 + 1 * l.val = l.val
    rw [(starts t).2.2.1.2]; omega

/-- What the region finds in the row of biases: the first layer's bias, one row of 256. -/
theorem V_bias : V m c main_v0 = shapeCast S1x256 (m ((c : Thread nD τ).loc main_arg3)) shapeCasts_S256_S1x256 := by
  entry_read
  rfl

/-- The first layer's bias is staged whole, as a row. -/
theorem block_bias (k : Fin 256) :
    iblk m c 3 t (ix2 0 k) = m ((c : Thread nD τ).loc main_arg3) (ix1 k) := by
  refine Eq.trans (b := V m c main_v0 (ix2 0 k)) ?_ ((congrFun (V_bias m c) _).trans (by pointwise))
  refine congrArg (V m c main_v0) (funext fun i => Fin.ext ?_)
  fin_cases i
  · show win0_3.index t 0 * 1 + 1 * 0 = 0
    rw [(starts t).2.2.2.1.1]
  · show win0_3.index t 1 * 256 + 1 * k.val = k.val
    rw [(starts t).2.2.2.1.2]; omega

/-- The second layer's weights are staged whole. -/
theorem block_weights' (k : Fin 256) :
    iblk m c 4 t (ix2 0 k) = m ((c : Thread nD τ).loc main_arg4) (ix2 0 k) := by
  refine Eq.trans ?_ (congrFun (V_main_arg4 m c) _)
  refine congrArg (V m c main_arg4) (funext fun i => Fin.ext ?_)
  fin_cases i
  · show win0_4.index t 0 * 1 + 1 * 0 = 0
    rw [(starts t).2.2.2.2.1.1]
  · show win0_4.index t 1 * 256 + 1 * k.val = k.val
    rw [(starts t).2.2.2.2.1.2]; omega

/-- The second layer's bias is staged whole. -/
theorem block_bias' : iblk m c 5 t (ix1 0) = m ((c : Thread nD τ).loc main_arg5) (ix1 0) := by
  refine Eq.trans ?_ (congrFun (V_main_arg5 m c) _)
  refine congrArg (V m c main_arg5) (funext fun i => Fin.ext ?_)
  fin_cases i
  show win0_5.index t 0 * 1 + 1 * 0 = 0
  rw [(starts t).2.2.2.2.2.1]

end Cert.Pair

end
-- ==== Proof.Pair.Logits.lean ====
/-
  The function both programs compute, apart from any program: the logit of row `m` of the first operand and row `j` of the
  second, as sums over the extended reals.
-/
module

public import Idealize.ShloMosaic.Lib.Pointwise

@[expose] public section

noncomputable section

namespace Cert.Pair

open Idealize.ShloMosaic

variable (A B : FVec Ideal ⟨2, ![1024, 128]⟩ .f32) (W : FVec Ideal ⟨2, ![256, 256]⟩ .f32) (b : FVec Ideal ⟨1, ![256]⟩ .f32)
  (W' : FVec Ideal ⟨2, ![1, 256]⟩ .f32) (b' : FVec Ideal ⟨1, ![1]⟩ .f32)

/-- Row `m` of the first operand against the first 128 columns of row `k` of the weights. -/
def left (m : Fin 1024) (k : Fin 256) : Ideal .f32 :=
  ∑ l : Fin 128, A (ix2 m l) * W (ix2 k ⟨l.val, l.isLt.trans (by decide)⟩)

/-- Row `j` of the second operand against the last 128 columns of row `k` of the weights. -/
def right (j : Fin 1024) (k : Fin 256) : Ideal .f32 :=
  ∑ l : Fin 128, B (ix2 j l) * W (ix2 k ⟨128 + l.val, Nat.add_lt_add_left l.isLt 128⟩)

/-- The logit of the pair `(m, j)`: the rectified sum of the two products and the bias, against the second layer's weights,
    plus its bias. -/
def logit (m j : Fin 1024) : Ideal .f32 :=
  (∑ k : Fin 256, max (left A W m k + right B W j k + b (ix1 k)) 0 * W' (ix2 0 k)) + b' (ix1 0)

/-- All the logits. -/
def logits : FVec Ideal ⟨2, ![1024, 1024]⟩ .f32 := fun i => logit A B W b W' b' (i 0) (i 1)

/-- Adding the bias to the first product before the second comes to it gives the same logit. -/
theorem logit_bias_first (m j : Fin 1024) :
    (∑ k : Fin 256, max ((left A W m k + b (ix1 k)) + right B W j k) 0 * W' (ix2 0 k)) + b' (ix1 0)
      = logit A B W b W' b' m j := by
  unfold logit
  exact congrArg (· + b' (ix1 0)) (Finset.sum_congr rfl fun k _ => by rw [add_right_comm])

end Cert.Pair

end
-- ==== Proof.Pair.Step.lean ====
/-
  What a step stores, from its input blocks: the logits of the first operand's rows against the step's rows of the second.
-/
module

public import proofs.«01_k».proof.Proof.Pair.Payloads
public import proofs.«01_k».proof.Proof.Pair.Blocks
public import proofs.«01_k».proof.Proof.Pair.Logits

@[expose] public section

set_option maxRecDepth 16384

noncomputable section

namespace Cert.Pair

open Cert.KernelIdeal Cert.KernelIdeal.Gen Idealize.ShloMosaic Idealize.ShloMosaic.TcCoe Idealize.SL.Sem

/-- The writes of all the columns of a step, the last first, from the step's blocks. -/
def stepWrites {F : FTy → Type} [FloatOps F] (x0 : Vec F S1024x128 .f32) (x1 : Vec F S256x128 .f32)
    (x2 : Vec F S256x256 .f32) (x3 x4 : Vec F S1x256 .f32) : List (View.Piece (Elt F) S256x1024 .bf16) :=
  writes (k0_pay1 x0 x2 x3) (k0_pay2 x1 x2) (k0_pay3 x4) 1024 le_rfl

/-- What a step stores: the buffer after all the columns, transposed, plus the last bias. -/
def stepBlock {F : FTy → Type} [FloatOps F] (x0 : Vec F S1024x128 .f32) (x1 : Vec F S256x128 .f32)
    (x2 : Vec F S256x256 .f32) (x3 x4 : Vec F S1x256 .f32) (x5 : Vec F S1 .f32) : FVec F S1024x256 .f32 :=
  k0_pay1302 (x5 (ix1 0)) (View.canon (stepWrites x0 x1 x2 x3 x4))

variable (m : (ℓ : Loc nD τ sig) → Buf (Elt Ideal) ℓ) (c : Dev nD)

/-- All the logits of the launch's arguments, on core `c`. -/
abbrev result : Buf (Elt Ideal) ((c : Thread nD τ).loc main_v1) :=
  logits (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- At row `r` and column `j`, step `t` stores the logit of row `r` and row `256 t + j`. -/
theorem stepBlock_apply (t : Fin cfg0.N) (r : Fin 1024) (j : Fin 256) :
    stepBlock (F := Ideal) (iblk m c 0 t) (iblk m c 1 t) (iblk m c 2 t) (iblk m c 3 t) (iblk m c 4 t) (iblk m c 5 t) (ix2 r j)
      = result m c (ix2 r (rowOf t j)) := by
  refine (stored _ _ r j).trans ?_
  unfold stepWrites
  rw [canon_writes _ _ _ j r 1024 le_rfl r.isLt, column_apply]
  refine Eq.trans ?_ (logit_bias_first _ _ _ _ _ _ r (rowOf t j))
  refine congrArg₂ (· + ·) (Finset.sum_congr rfl fun k _ => ?_) (block_bias' m c t)
  refine congrArg₂ (· * ·) (congrArg (max · 0) (congrArg₂ (· + ·) ?_ ?_)) ?_
  · refine (hidden_left _ _ _ r k).trans (congrArg₂ (· + ·) (Finset.sum_congr rfl fun l _ => ?_) (block_bias m c t k))
    exact congrArg₂ (· * ·) (block_left m c t r l) (block_weights m c t k _)
  · refine (hidden_right _ _ j k).trans (Finset.sum_congr rfl fun l _ => ?_)
    exact congrArg₂ (· * ·) (block_right m c t j l) (block_weights m c t k _)
  · exact (weights _ k).trans (block_weights' m c t k)

/-- Reading any whole array through the result's block at step `t`: all rows, columns `256 t` on. -/
theorem read_tile (G : Buf (Elt Ideal) ((c : Thread nD τ).loc main_v1)) (t : Fin cfg0.N) (r : Fin 1024) (j : Fin 256) :
    ((cfg0.win 6).blk t).view.read (Elt Ideal) G (ix2 r j) = G (ix2 r (rowOf t j)) := by
  refine congrArg G (funext fun i => Fin.ext ?_)
  fin_cases i
  · show win0_6.index t 0 * 1024 + 1 * r.val = r.val
    rw [(starts t).2.2.2.2.2.2.1]; omega
  · show win0_6.index t 1 * 256 + 1 * j.val = 256 * t.val + j.val
    rw [(starts t).2.2.2.2.2.2.2]; omega

/-- Every index of the result lies in some step's block, and every step writes its block back. -/
theorem tiles_cover (i : S1024x1024.Idx) :
    ∃ t : Fin cfg0.N, (cfg0.win 6).flush t = true ∧ i ∈ ((cfg0.win 6).blk t).view.set := by
  have h0 : (i 0 : ℕ) < 1024 := (i 0).isLt
  have h1 : (i 1 : ℕ) < 1024 := (i 1).isLt
  have hN : cfg0.N = 4 := N_0
  obtain ⟨t, ht⟩ : ∃ t : Fin cfg0.N, t.val = (i 1 : ℕ) / 256 := ⟨⟨(i 1 : ℕ) / 256, by omega⟩, rfl⟩
  refine ⟨t, flush0_6 t, ?_⟩
  show i ∈ ((View.whole main_v1).slice (win0_6.rect t)).set
  rw [View.set_slice_whole]
  refine Rect.mem_set_unit.mpr fun a => ?_
  fin_cases a
  · show win0_6.index t 0 * 1024 ≤ (i 0 : ℕ) ∧ (i 0 : ℕ) < win0_6.index t 0 * 1024 + 1024
    rw [(starts t).2.2.2.2.2.2.1]; omega
  · show win0_6.index t 1 * 256 ≤ (i 1 : ℕ) ∧ (i 1 : ℕ) < win0_6.index t 1 * 256 + 256
    rw [(starts t).2.2.2.2.2.2.2]; omega

end Cert.Pair

end
-- ==== Proof.Pair.Body.lean ====
/-
  A step, run: on blocks held at given contents it ends with the output block at `stepBlock` of them, whatever the output
  block and the buffer of columns held before.
-/
module

public import proofs.«01_k».proof.Proof.Pair.Program
public import proofs.«01_k».proof.Proof.Pair.Step

@[expose] public section

set_option maxRecDepth 16384

noncomputable section

namespace Cert.Pair

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (E : Set ℕ)

/-- The last `k` columns, run from the buffer with the columns before them written, leave it with all 1024 written. Beside
    the buffer anything may be held. -/
theorem lastColumns_run (a : FVec F S1024x256 .bf16) (b : FVec F S256x256 .bf16) (w : FVec F S1x256 .bf16)
    (arg9 : Memref sig .tc .vmem S256x1024 .bf16) (harg9 : arg9.IsWhole)
    (next : Prog (TpuEff nD τ sig (Elt F) Λ₀ .tc) PUnit) (f : Buf (Elt F) (arg9.view.loc (c : Thread nD τ)))
    (R : sProp 𝕄) (K : PUnit → sProp 𝕄)
    (hnext : iprop(R ∗ (arg9.view.loc (c : Thread nD τ)
        ↦[arg9.view.set]{fullShare} arg9.view.writes (Elt F) f (writes a b w 1024 le_rfl)))
      ⊢ wp frame (wpE (defs₀ (F := F)) Variants.none c none) E next K) (k : ℕ) :
    ∀ (n : ℕ) (hn : n ≤ 1024), n + k = 1024 →
      iprop(R ∗ (arg9.view.loc (c : Thread nD τ)
        ↦[arg9.view.set]{fullShare} arg9.view.writes (Elt F) f (writes a b w n hn)))
      ⊢ wp frame (wpE (defs₀ (F := F)) Variants.none c none) E (lastColumns a b w arg9 harg9 next k) K := by
  induction k with
  | zero =>
    intro n hn h
    obtain rfl : n = 1024 := h
    exact hnext
  | succ k ih =>
    intro n hn h
    obtain rfl : n = 1023 - k := by omega
    refine exec_load (R := R) Variants.none (c : Thread nD τ) none E .rfl (View.setOn_subset_set _ _) _ rfl ?_
    refine exec_store (R := R) Variants.none (c : Thread nD τ) none E .rfl (View.set_slice_subset _ _) _ rfl .rfl ?_
    exact ih (1023 - k + 1) (fromLast_lt k) (by omega)

/-- The columns cover the buffer. -/
theorem columns_cover (a : FVec F S1024x256 .bf16) (b : FVec F S256x256 .bf16) (w : FVec F S1x256 .bf16) (j : Fin 256)
    (m : Fin 1024) (n : ℕ) (hn : n ≤ 1024) (h : m.val < n) :
    ∃ p ∈ writes a b w n hn, (ix2 j m : S256x1024.Idx) ∈ p.1.set := by
  induction n with
  | zero => exact absurd h (Nat.not_lt_zero _)
  | succ n ih =>
    rcases Nat.lt_succ_iff_lt_or_eq.mp h with h' | h'
    · obtain ⟨p, hp, hm⟩ := ih (Nat.le_of_succ_le hn) h'
      exact ⟨p, List.mem_cons_of_mem _ hp, hm⟩
    · subst h'
      refine ⟨_, List.mem_cons_self, (Rect.mem_set_unit (inb := inb_column m.val hn)).mpr fun i => ?_⟩
      fin_cases i
      · exact ⟨Nat.zero_le _, show j.val < 0 + 256 by omega⟩
      · exact ⟨le_rfl, Nat.lt_succ_self _⟩

/-- All the columns, run from a buffer at any contents, leave it at what the 1024 writes make of it. -/
theorem columns_run (a : FVec F S1024x256 .bf16) (b : FVec F S256x256 .bf16) (w : FVec F S1x256 .bf16)
    (arg9 : Memref sig .tc .vmem S256x1024 .bf16) (harg9 : arg9.IsWhole)
    {next : Prog (TpuEff nD τ sig (Elt F) Λ₀ .tc) PUnit} {K : PUnit → sProp 𝕄} :
    iprop(∃ d, owns (c : Thread nD τ) arg9 fullShare d)
      ⊢ iprop((owns (c : Thread nD τ) arg9 fullShare (View.canon (writes a b w 1024 le_rfl))
          -∗ wp frame (wpE (defs₀ (F := F)) Variants.none c none) E next K)
        -∗ wp frame (wpE (defs₀ (F := F)) Variants.none c none) E (lastColumns a b w arg9 harg9 next 1024) K) := by
  unfold owns
  iintro ⟨%d, %f, -, H⟩
  refine wand_intro_left ?_
  refine lastColumns_run c E a b w arg9 harg9 next f _ K ?_ 1024 0 (Nat.zero_le _) rfl
  iintro ⟨Hk, H⟩
  iapply Hk
  iexists _
  isplitr
  swap
  · iexact H
  ipureintro
  refine View.read_writes_eq_canon _ _ _ fun y => ?_
  obtain ⟨j, m, rfl⟩ : ∃ (j : Fin 256) (m : Fin 1024), y = ix2 j m := ⟨y 0, y 1, (eq_ix2 y)⟩
  exact columns_cover a b w j m 1024 le_rfl m.isLt

/-- The one index of a one-element array. -/
theorem first_eq (h : 0 < S1.numel) : Shape.Idx.first h = ix1 (0 : Fin 1) :=
  funext fun i => by
    fin_cases i
    exact Subsingleton.elim (α := Fin 1) _ _

/-- A load of a whole block held at contents `x` reads `x` and leaves the block as it was. -/
theorem load_whole {cs : CoreSpace} {s : Shape} {e : EltTy} {m : Memref sig .tc cs s e} {off : Fin s.rank → ℕ}
    (hz : off = fun _ => 0) {inb : ∀ a, off a + s.size a ≤ s.size a}
    {hl : m.view.LoadsAt (Rect.unit off s.size inb).toLoadRect} {x : s.Idx → Elt F e} {q : PosShare TreeShare}
    {k : (s.Idx → Elt F e) → Prog (TpuEff nD τ sig (Elt F) Λ₀ .tc) PUnit} {K : PUnit → sProp 𝕄} :
    owns (c : Thread nD τ) m q x
      ⊢ iprop((owns (c : Thread nD τ) m q x -∗ wp frame (wpE (defs₀ (F := F)) Variants.none c none) E (k x) K)
        -∗ wp frame (wpE (defs₀ (F := F)) Variants.none c none) E
            (.op (.load m (Rect.unit off s.size inb).toLoadRect hl) k) K) := by
  subst hz
  unfold owns
  iintro ⟨%f, %hf, H⟩ Hk
  have hv : m.view.readAt (Elt F) (Rect.unit (fun _ => 0) s.size inb).toLoadRect f = x := by
    rw [View.readAt_eq_ld, hf]
    exact funext fun y => congrArg x (funext fun i => Fin.ext (by show 0 + 1 * (y i : ℕ) = y i; omega))
  iapply (wp_load Variants.none (c : Thread nD τ) none E (Q := K) (hl := hl) (k := k) (q := q) (f := f)
    (View.setOn_subset_set m.view _)) $$ H
  iintro H
  rw [hv]
  iapply Hk
  iexists f
  isplitr
  · ipureintro; exact hf
  iexact H

/-- A store of a whole block leaves it at what was stored, whatever it held. -/
theorem store_whole {cs : CoreSpace} {s : Shape} {e : EltTy} {m : Memref sig .tc cs s e} {off : Fin s.rank → ℕ}
    (hz : off = fun _ => 0) {inb : ∀ a, off a + s.size a ≤ s.size a} {w : s.Idx → Elt F e}
    {hx : (m.access (Rect.unit off s.size inb)).Stores Finset.univ}
    {hm : Finset.univ = Finset.univ ∨ ∀ a, (Rect.unit off s.size inb).stride a = 1} {x : s.Idx → Elt F e}
    {k : PUnit → Prog (TpuEff nD τ sig (Elt F) Λ₀ .tc) PUnit} {K : PUnit → sProp 𝕄} :
    owns (c : Thread nD τ) m fullShare x
      ⊢ iprop((owns (c : Thread nD τ) m fullShare w -∗ wp frame (wpE (defs₀ (F := F)) Variants.none c none) E (k ⟨⟩) K)
        -∗ wp frame (wpE (defs₀ (F := F)) Variants.none c none) E
            (.op (.store m (Rect.unit off s.size inb) w Finset.univ hx hm) k) K) := by
  unfold owns
  iintro ⟨%f, %hf, H⟩ Hk
  iapply (wp_store_writes₀ Variants.none (c : Thread nD τ) none E (Q := K) (w := w) (hx := hx) (hm := hm) (k := k) (f := f)
    (View.set_slice_subset m.view _)) $$ H
  iintro H
  iapply Hk
  iexists _
  isplitr
  swap
  · iexact H
  ipureintro
  refine (View.read_writes_eq_canon _ _ _ fun y => ⟨_, List.mem_singleton_self _, ?_⟩).trans ?_
  · subst hz
    exact (Rect.mem_set_unit (inb := inb)).mpr fun i => ⟨Nat.zero_le _, by show (y i : ℕ) < 0 + s.size i; have := (y i).isLt; omega⟩
  exact View.canon_unit_zero hz inb w

/-- The step's triple. -/
theorem body_run (i : grid0.Coords) (arg2 : Memref sig .tc .vmem S1024x128 .f32) (harg2 : arg2.IsWhole)
    (arg3 : Memref sig .tc .vmem S256x128 .f32) (harg3 : arg3.IsWhole) (arg4 : Memref sig .tc .vmem S256x256 .f32)
    (harg4 : arg4.IsWhole) (arg5 : Memref sig .tc .vmem S1x256 .f32) (harg5 : arg5.IsWhole)
    (arg6 : Memref sig .tc .vmem S1x256 .f32) (harg6 : arg6.IsWhole) (arg7 : Memref sig .tc .smem S1 .f32)
    (harg7 : arg7.IsWhole) (arg8 : Memref sig .tc .vmem S1024x256 .f32) (harg8 : arg8.IsWhole)
    (arg9 : Memref sig .tc .vmem S256x1024 .bf16) (harg9 : arg9.IsWhole)
    (x0 : Vec F S1024x128 .f32) (x1 : Vec F S256x128 .f32) (x2 : Vec F S256x256 .f32) (x3 x4 : Vec F S1x256 .f32)
    (x5 : Vec F S1 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare (stepBlock x0 x1 x2 x3 x4 x5)
            ∗ (∃ d, owns (c : Thread nD τ) arg9 fullShare d)) -∗ K ⟨⟩))
      ⊢ wp frame (wpE (defs₀ (F := F)) Variants.none c none) E
          (cc0__pair_kernel i arg2 harg2 arg3 harg3 arg4 harg4 arg5 harg5 arg6 harg6 arg7 harg7 arg8 harg8 arg9 harg9) K := by
  rw [printed_eq_step]
  unfold step
  iintro ⟨H0, H1, H2, H3, H4, H5, ⟨%d6, H6⟩, H7, Hk⟩
  iapply (load_whole c E (by decide)) $$ H0
  iintro H0
  iapply (load_whole c E (by decide)) $$ H1
  iintro H1
  iapply (load_whole c E (by decide)) $$ H2
  iintro H2
  iapply (load_whole c E (by decide)) $$ H3
  iintro H3
  iapply (load_whole c E (by decide)) $$ H4
  iintro H4
  iapply (load_whole c E (by decide)) $$ H5
  iintro H5
  rw [first_eq]
  iapply (columns_run c E (k0_pay1 x0 x2 x3) (k0_pay2 x1 x2) (k0_pay3 x4) arg9 harg9) $$ H7
  iintro H7
  unfold finish
  iapply (load_whole c E (by decide)) $$ H7
  iintro H7
  iapply (load_whole c E (by decide)) $$ H6
  iintro H6
  iapply (store_whole c E (by decide)) $$ H6
  iintro H6
  sl_step
  iapply Hk
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  iexists _
  iexact H7

end Cert.Pair

end
-- ==== Proof.Pair.Frame.lean ====
/-
  The launch: every step takes its blocks to `stepBlock` of them, so the pipeline's run ends with the result array made of the
  steps' blocks, the arguments as they were, and every semaphore counter at zero.
-/
module

public import proofs.«01_k».proof.Proof.Pair.Body
public import Idealize.ShloMosaic.Lib.Claim

@[expose] public section

set_option maxRecDepth 16384

noncomputable section

namespace Cert.Pair

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a step stores, at the blocks of point `t`. -/
def stored6 (c : Dev nD) (t : Fin cfg0.N) : Vec F S1024x256 .f32 :=
  stepBlock (iblk m c 0 t) (iblk m c 1 t) (iblk m c 2 t) (iblk m c 3 t) (iblk m c 4 t) (iblk m c 5 t)

/-- The pipeline's proof data on core `c`: the arrays as the region finds them; after point `t` each input's buffer at its
    block and the output's at what the step stores; the scratch buffer and the generator register at some contents; nothing
    owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => stored6 m c t
  Φ _ := Pipeline.ΦA spec0 c
  q _ := fullShare
  owed _ := 0

/-- The proof data's arrays are the contents the region finds. -/
theorem array_eq (c : Dev nD) (w : Fin cfg0.W) : (dats m 0 c).A w = V m c (Pipeline.arrRef spec0 w) := by
  dsimp only [dats]

/-- After a point, the first input's buffer is at its block; -/
theorem after_0 (c : Dev nD) (t : Fin cfg0.N) : (dats m 0 c).after 0 t = iblk m c 0 t := by dsimp only [dats]
/-- the second's; -/
theorem after_1 (c : Dev nD) (t : Fin cfg0.N) : (dats m 0 c).after 1 t = iblk m c 1 t := by dsimp only [dats]
/-- the third's; -/
theorem after_2 (c : Dev nD) (t : Fin cfg0.N) : (dats m 0 c).after 2 t = iblk m c 2 t := by dsimp only [dats]
/-- the fourth's; -/
theorem after_3 (c : Dev nD) (t : Fin cfg0.N) : (dats m 0 c).after 3 t = iblk m c 3 t := by dsimp only [dats]
/-- the fifth's; -/
theorem after_4 (c : Dev nD) (t : Fin cfg0.N) : (dats m 0 c).after 4 t = iblk m c 4 t := by dsimp only [dats]
/-- the sixth's; -/
theorem after_5 (c : Dev nD) (t : Fin cfg0.N) : (dats m 0 c).after 5 t = iblk m c 5 t := by dsimp only [dats]
/-- and the output's is at what the step stores. -/
theorem after_6 (c : Dev nD) (t : Fin cfg0.N) : (dats m 0 c).after 6 t = stored6 m c t := by dsimp only [dats]

/-- Before a point, every input's buffer is at its block, fetched there or kept. -/
theorem before_inputs (c : Dev nD) (t : Fin cfg0.N) :
    (∀ d, (dats m 0 c).before 0 t d = iblk m c 0 t) ∧ (∀ d, (dats m 0 c).before 1 t d = iblk m c 1 t)
      ∧ (∀ d, (dats m 0 c).before 2 t d = iblk m c 2 t) ∧ (∀ d, (dats m 0 c).before 3 t d = iblk m c 3 t)
      ∧ (∀ d, (dats m 0 c).before 4 t d = iblk m c 4 t) ∧ (∀ d, (dats m 0 c).before 5 t d = iblk m c 5 t) :=
  ⟨before0_0_of m (dats m 0 c) (array_eq m c 0) (after_0 m c) t, before0_1_of m (dats m 0 c) (array_eq m c 1) (after_1 m c) t,
    before0_2_of m (dats m 0 c) (array_eq m c 2) (after_2 m c) t, before0_3_of m (dats m 0 c) (array_eq m c 3) (after_3 m c) t,
    before0_4_of m (dats m 0 c) (array_eq m c 4) (after_4 m c) t, before0_5_of m (dats m 0 c) (array_eq m c 5) (after_5 m c) t⟩

/-- What a step is called with at point `t`. -/
def stepPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What it returns. -/
def stepPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- The step at any point, from what it is called with to what it returns. -/
theorem step_sound (c : Dev nD) (t : Fin cfg0.N) :
    stepPre m c t ⊢ wp frame (wpE (defs₀ (F := F)) Variants.none c none) Set.univ (bodyAt0 t) (fun _ => stepPost m c t) := by
  obtain ⟨h0, h1, h2, h3, h4, h5⟩ := before_inputs m c t
  unfold stepPre stepPost bodyAt0
  simp only [h0, h1, h2, h3, h4, h5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  rw [show (dats m 0 c).Φ t.castSucc = Pipeline.ΦA spec0 c from rfl, PhiA0_eq]
  unfold stored6
  iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
  iapply (body_run c Set.univ (grid0.coords t) _ _ _ _ _ _ _ _ _ _ _ _ _ _ _ _ (iblk m c 0 t) (iblk m c 1 t)
    (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS]; · iexact HS
  iintro ⟨H0, H1, H2, H3, H4, H5, H6, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t` is the printed step there. -/
theorem row_eq (t : Fin cfg0.N) : defs₀ (F := F) .tc cfg0.body (cfg0.bodyArgs t (cfg0.slots t)) = bodyAt0 t := by
  unfold defs₀; rw [Defs.onTc_tc]

/-- The pipeline's obligation for its body, at every point. -/
theorem obligation (c : Dev nD) : BodyObligation (dats (F := F) m 0 c) (defs₀ (F := F)) Variants.none () Set.univ := fun t => by
  rw [bigSep_W0, bigSep_W0, row_eq]
  exact triple_restated (step_sound m c t) rfl .rfl fun _ => .rfl

set_option backward.isDefEq.respectTransparency.types false in
/-- The launch ends, with the pipeline's arrays at what the proof data say and every semaphore counter at zero. -/
theorem launch_run : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := array_eq m) (hΦ := fun _ _ => rfl)

/-- The arrays' part of it. -/
theorem arrays_run : θ_run defs (onTc (τ := τ) (main (F := F))) (s₀ m ρ) (Pipeline.FramePost cfgs (dats m) 0 (V m)) :=
  (θ_run defs _ _).mono (fun _ h => h.1) (launch_run m ρ)

/-- The launch ends with the arguments unchanged and every semaphore counter at zero, for any values and any contents. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  θ_run_and (frame_of m ρ (dats m) (array_eq m) (arrays_run m ρ))
    ((θ_run defs _ _).mono (fun _ h => h.2) (launch_run m ρ))

end Cert.Pair

end
-- ==== Proof.Pair.Array.lean ====
/-
  The kernel's result array after the run: the logits.
-/
module

public import proofs.«01_k».proof.Proof.Pair.Frame
public import Idealize.ShloMosaic.Lib.Pipeline.Value

@[expose] public section

set_option maxRecDepth 65536

noncomputable section

namespace Cert.Pair

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- What step `t` writes back is its block of the logits. -/
theorem flushed_eq (c : Dev nD) (t : Fin cfg0.N) :
    (dats m 0 c).flushed 6 t = ((cfg0.win 6).blk t).view.read (Elt Ideal) (result m c) := by
  show (cfg0.win 6).cut (grid0.coords t) ((dats m 0 c).after 6 t) = _
  rw [after_6]
  funext y
  obtain ⟨r, j, rfl⟩ : ∃ (r : Fin 1024) (j : Fin 256), y = ix2 r j :=
    ⟨y 0, y 1, funext fun i => by fin_cases i <;> rfl⟩
  exact (stepBlock_apply m c t r j).trans (read_tile c (result m c) t r j).symm

/-- The kernel's run: its result holds the logits of its arguments, which it leaves as they were. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c =>
      ⟨((h c).1 6).trans ((dats m 0 c).arrAt_eq_of_cover 6 (result m c) (fun t _ => flushed_eq m c t) tiles_cover),
        ((h c).1 0).trans (((dats m 0 c).arrAt_in 0 rfl _).trans ((array_eq m c 0).trans (V_main_arg0 m c))),
        ((h c).1 1).trans (((dats m 0 c).arrAt_in 1 rfl _).trans ((array_eq m c 1).trans (V_main_arg1 m c))),
        ((h c).1 2).trans (((dats m 0 c).arrAt_in 2 rfl _).trans ((array_eq m c 2).trans (V_main_arg2 m c))),
        ((h c).2 main_arg3 (Pipeline.mem_restRefs_of main_arg3 (by decide) (by decide))).trans (V_main_arg3 m c),
        ((h c).1 4).trans (((dats m 0 c).arrAt_in 4 rfl _).trans ((array_eq m c 4).trans (V_main_arg4 m c))),
        ((h c).1 5).trans (((dats m 0 c).arrAt_in 5 rfl _).trans ((array_eq m c 5).trans (V_main_arg5 m c)))⟩)
    (arrays_run m ρ)

end Cert.Pair

end
-- ==== Proof.Pair.Printed.lean ====
/-
  The kernel as printed and the kernel printed for the ideal values are one text: no operation was rewritten between them. So
  what is proved of the second at the machine's values holds of the first.
-/
module

public import proofs.«01_k».proof.Defs
public import proofs.«01_k».proof.Proof.Gen.Kernel
public import proofs.«01_k».proof.Proof.Pair.Frame

@[expose] public section

set_option maxRecDepth 16384

noncomputable section

namespace Cert.Pair

open Cert.KernelIdeal Cert.KernelIdeal.Gen Idealize.ShloMosaic Idealize.ShloMosaic.TcCoe Idealize.ShloMosaic.Tactic
open Idealize.SL.Sem

/-- The statement, of the kernel printed for the ideal values but read at the machine's: it ends with its arguments unchanged
    and every semaphore counter at zero. -/
def FrameAtBits : Prop :=
  ∀ (m : (ℓ : Loc nD τ sig) → Buf (Elt Bits) ℓ) (g : Dev nD → PrngReg), True →
    θ_run (defs (F := Bits)) (onTc (τ := τ) (main (F := Bits))) ⟨m, fun _ => 0, g⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) ∧ r.2.sem = fun _ => 0

/-- It is the claim about the kernel as printed, by computation. -/
theorem printed_claim : Cert.quiescent_Kernel = FrameAtBits := by
  sl_kernel_rfl

/-- The kernel as printed leaves its arguments unchanged and every semaphore counter at zero. -/
theorem frame_printed : Cert.quiescent_Kernel := printed_claim.mpr fun m g _ => frame (F := Bits) m g

end Cert.Pair

end
-- ==== Proof.Pair.Reference.lean ====
/-
  The reference's result is the array of logits.
-/
module

public import proofs.«01_k».proof.Proof.Gen.ReferenceIdeal.Run
public import proofs.«01_k».proof.Proof.Pair.Logits

@[expose] public section

set_option maxRecDepth 16384

noncomputable section

namespace Cert.Pair.Reference

open Cert.ReferenceIdeal Cert.ReferenceIdeal.Gen Idealize.ShloMosaic Idealize.ShloMosaic.TcCoe Idealize.SL.Sem

/-- The reference's run: its result holds the logits of its arguments, which it leaves as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v19)
        = logits (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun _ h c => ⟨(h c).1.trans ?_, (h c).2⟩) (Cert.ReferenceIdeal.Value.run (F := Ideal) m ρ)
  funext i
  unfold logits logit left right
  pointwise

end Cert.Pair.Reference

end
-- ==== Proof.lean ====
/-
  The five claims, put together: the three programs' frames, the step from the printed kernel to the one read at the ideal
  values, and the equality of the two results there.
-/
module

public import proofs.«01_k».proof.Defs
public import proofs.«01_k».proof.Proof.Pair.Array
public import proofs.«01_k».proof.Proof.Pair.Printed
public import proofs.«01_k».proof.Proof.Pair.Reference
public import Idealize.ShloMosaic.Lib.Quiescent
public import Idealize.ShloMosaic.Adequacy
public import Idealize.ShloMosaic.Init

@[expose] public section

noncomputable section

namespace Cert.Proof

open Idealize.ShloMosaic Idealize.SL.Sem

/-- The reference leaves its arguments unchanged and, having no semaphores, every counter at zero. -/
theorem frame_reference : Cert.quiescent_ReferenceIdeal := fun m g _ =>
  (θ_run _ _ _).mono
    (fun r h => ⟨fun c => (h c).2, Idealize.ShloMosaic.sem_eq_zero_of_no_sems (by decide) r.2⟩)
    (Cert.Pair.Reference.run m g)

/-- At the ideal values the kernel and the reference, on equal arguments, both end with the logits of the arguments. -/
theorem results_equal : Cert.algebraic_KernelIdeal_ReferenceIdeal := fun m g m' g' _ hagree =>
  ⟨fun c => Cert.Pair.result m c, Cert.Pair.run m g,
    (θ_run _ _ _).mono
      (fun r h c => ⟨(h c).1.trans (by
        obtain ⟨h0, h1, h2, h3, h4, h5⟩ := hagree c
        rw [h0, h1, h2, h3, h4, h5]), (h c).2⟩)
      (Cert.Pair.Reference.run m' g')⟩

/-- All the claims. -/
theorem claim : Cert.Claim :=
  ⟨Cert.Kernel.Gen.facts, Cert.KernelIdeal.Gen.facts, Cert.ReferenceIdeal.Gen.facts,
    Cert.Pair.frame_printed, fun m g _ => Cert.Pair.frame (F := Ideal) m g, frame_reference, trivial, results_equal⟩

end Cert.Proof

end
